-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v18) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1024x256x128 : Shape := ⟨3, ![1024, 256, 128]⟩
abbrev S100000x128 : Shape := ⟨2, ![100000, 128]⟩
abbrev S262144 : Shape := ⟨1, ![262144]⟩
abbrev S262144x128 : Shape := ⟨2, ![262144, 128]⟩
abbrev S31232x128 : Shape := ⟨2, ![31232, 128]⟩

abbrev nBuf : Space → Nat
  | .hbm => 8
  | .vmem => 4
  | .smem => 0
  | _ => 0

abbrev bufTy : (tb : Table) → Fin (tcTables nBuf tb) → BufTy
  | .hbm, ⟨0, _⟩ => ⟨S1024x256x128, .f32⟩
  | .hbm, ⟨1, _⟩ => ⟨S100000x128, .f32⟩
  | .hbm, ⟨2, _⟩ => ⟨S262144, .i32⟩
  | .hbm, ⟨3, _⟩ => ⟨S262144, .i32⟩
  | .hbm, ⟨4, _⟩ => ⟨S262144, .i32⟩
  | .hbm, ⟨5, _⟩ => ⟨S262144x128, .f32⟩
  | .hbm, ⟨6, _⟩ => ⟨S262144x128, .f32⟩
  | .hbm, ⟨7, _⟩ => ⟨S1024x256x128, .f32⟩
  | .local _ .vmem, ⟨0, _⟩ => ⟨S31232x128, .f32⟩
  | .local _ .vmem, ⟨1, _⟩ => ⟨S31232x128, .f32⟩
  | .local _ .vmem, ⟨2, _⟩ => ⟨S31232x128, .f32⟩
  | .local _ .vmem, ⟨3, _⟩ => ⟨S31232x128, .f32⟩
  | _, _ => ⟨S1024x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S31232x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S31232x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S1024x256x128 : Shape := ⟨3, ![1024, 256, 128]⟩
abbrev S100000x128 : Shape := ⟨2, ![100000, 128]⟩
abbrev S262144 : Shape := ⟨1, ![262144]⟩
abbrev S_ : Shape := ⟨0, ![]⟩
abbrev S262144x128 : Shape := ⟨2, ![262144, 128]⟩
abbrev S262144x1 : Shape := ⟨2, ![262144, 1]⟩

abbrev nBuf : Space → Nat
  | .hbm => 29
  | .vmem => 0
  | .smem => 0
  | _ => 0

abbrev bufTy : (tb : Table) → Fin (tcTables nBuf tb) → BufTy
  | .hbm, ⟨0, _⟩ => ⟨S1024x256x128, .f32⟩
  | .hbm, ⟨1, _⟩ => ⟨S100000x128, .f32⟩
  | .hbm, ⟨2, _⟩ => ⟨S262144, .i32⟩
  | .hbm, ⟨3, _⟩ => ⟨S262144, .i32⟩
  | .hbm, ⟨4, _⟩ => ⟨S262144, .i32⟩
  | .hbm, ⟨5, _⟩ => ⟨S_, .i32⟩
  | .hbm, ⟨6, _⟩ => ⟨S262144, .i32⟩
  | .hbm, ⟨7, _⟩ => ⟨S262144, .i32⟩
  | .hbm, ⟨8, _⟩ => ⟨S262144, .i32⟩
  | .hbm, ⟨9, _⟩ => ⟨S262144x128, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S262144x128, .f32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x128, .f32⟩
  | .hbm, ⟨28, _⟩ => ⟨S1024x256x128, .f32⟩
  | _, _ => ⟨S1024x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Body.lean ====
/-
  One grid point of the copy.  The pallas_call walks the 262144 rows of its operand in nine blocks of 31232 rows, of
  which the last has 12288 rows inside the array.  At each point the body loads the whole input staging buffer and
  stores it to the whole output staging buffer.  This file states what the body does to the two buffers
  (`copy_triple`), the proof data of the pipeline (`data`), and that the body meets them (`body_meets`).
  Past the array's end a staging buffer holds words that nothing names: both windows are stated on the rows inside
  the array alone.  Everything holds at any float values `F`.
-/
module

public import proofs.«01_k».proof.Proof.Gen.KernelIdeal.Frame
public import proofs.«01_k».proof.Proof.Gen.KernelIdeal.Skeleton
public import Idealize.ShloMosaic.Lib.Pipeline.ValueKit

@[expose] public section

noncomputable section

namespace Cert.Copy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ)

/-- The value stored is the value loaded: the cast in between is to the shape that it has. -/
theorem stored_eq (X : Vec F S31232x128 .f32) : k0_pay1 X = X := shapeCast_self _ _

/-- The body on any of the input's two staging buffers and any of the output's two: the output's buffer ends holding
    what the input's holds, and the input's is unchanged. -/
theorem copy_triple (c : Dev nD) (E : Set ℕ) (i : grid0.Coords) (a b : Fin 2)
    (X Y : S31232x128.Idx → Elt F .f32) (K : PUnit → sProp 𝕄) :
    iprop((owns (c : Thread nD τ) (stage0_0 a) fullShare X ∗ owns (c : Thread nD τ) (stage0_1 b) fullShare Y)
          ∗ (iprop(owns (c : Thread nD τ) (stage0_0 a) fullShare X ∗ owns (c : Thread nD τ) (stage0_1 b) fullShare X) -∗ K ⟨⟩))
      ⊢ wp frame (wpE (defs₀ (F := F)) Variants.none c none) E
          (cc0__copy_block i (stage0_0 a) (hstage0_0 a) (stage0_1 b) (hstage0_1 b)) K := by
  have hz : (![0, 0] : Fin 2 → Nat) = fun _ => 0 := funext fun k => by fin_cases k <;> rfl
  fin_cases a <;> fin_cases b
  all_goals
    simp only [owns_whole_eq, cc0__copy_block_eq_skeleton]; unfold cc0__copy_block_skel
    simp only [Prog.lift, Prog.bind_op, Prog.bind_ret]
    iintro ⟨⟨⟨%f, %hf, H⟩, ⟨%g, %hg, H'⟩⟩, Hk⟩
    sl_steps
    iapply Hk
    isplitl [H]
    · iexists f; isplitr; · ipureintro; exact hf
      iexact H
    · iexists f; isplitr; · ipureintro; exact hf
      rw [stored_eq]
      first
        | erw [Memref.readAt_unit_zero (Elt F) cc0_stg0_0 hz, Memref.write_access_unit_zero_univ (Elt F) cc0_stg1_0 hz]; iexact H'
        | erw [Memref.readAt_unit_zero (Elt F) cc0_stg0_0 hz, Memref.write_access_unit_zero_univ (Elt F) cc0_stg1_1 hz]; iexact H'
        | erw [Memref.readAt_unit_zero (Elt F) cc0_stg0_1 hz, Memref.write_access_unit_zero_univ (Elt F) cc0_stg1_0 hz]; iexact H'
        | erw [Memref.readAt_unit_zero (Elt F) cc0_stg0_1 hz, Memref.write_access_unit_zero_univ (Elt F) cc0_stg1_1 hz]; iexact H'

/-- The rows that point `t`'s block has inside the array, as the fetch reads them off the operand. -/
def rows (c : Dev nD) (t : Fin cfg0.N) : (win0_0.xblock (grid0.coords t)).Idx → Elt F .f32 :=
  (win0_0.blk t).view.read (Elt F) (V m c main_v0)

/-- The same rows as a whole staging buffer, zero words past the array's end (which nothing reads). -/
def padded (c : Dev nD) (t : Fin cfg0.N) : S31232x128.Idx → Elt F .f32 :=
  win0_0.fill (grid0.coords t) (fun _ => Scalar.ofBits .f32 0#32) (rows m c t)

/-- The proof data: the arrays as the region finds them, and after the body both staging buffers at the point's rows. -/
def data (_ : Fin 1) (c : Dev nD) : Dat τ (Elt F) Unit ℕ (UR sig nD τ) ℕ cfg0 c where
  A w := V m c (Pipeline.arrRef spec0 w)
  after w t := match w with
    | ⟨0, _⟩ => padded m c t
    | ⟨1, _⟩ => padded m c t
  Φ _ := Pipeline.ΦA spec0 c
  q _ := fullShare
  owed _ := 0

/-- The input's buffer reaches the body just fetched: the point's rows, and anything past the array's end. -/
theorem before_in (c : Dev nD) (t : Fin cfg0.N) (d) :
    (data m 0 c).before (0 : Fin 2) t d = win0_0.fill (grid0.coords t) d (rows m c t) := by
  unfold Dat.before; rw [if_pos (fetch0_0 t)]; rfl

/-- The body meets the proof data at every point. -/
theorem body_meets (c : Dev nD) : BodyObligationLoose (data m 0 c) (defs₀ (F := F)) Variants.none () Set.univ := fun t => by
  rw [bigSep_W0, bigSep_W0]
  simp only
  rw [show (data m 0 c).Φ t.succ = (data m 0 c).Φ t.castSucc from rfl,
    show (data m 0 c).owesAt () t.succ = (data m 0 c).owesAt () t.castSucc from rfl]
  iintro ⟨HΦ, Ho, ⟨%d, H⟩, ⟨%d', H'⟩⟩
  rw [before_in m c t d]
  iapply (copy_triple (F := F) c Set.univ (grid0.coords t) (cfg0.slots t 0) (cfg0.slots t 1)
    (win0_0.fill (grid0.coords t) d (rows m c t)) ((data m 0 c).before (1 : Fin 2) t d') _)
  isplitl [H H']
  · isplitl [H]
    · iexact H
    · iexact H'
  iintro ⟨H, H'⟩
  isplitl [HΦ]; · iexact HΦ
  isplitl [Ho]; · iexact Ho
  have hcut : win0_0.cut (grid0.coords t) (padded m c t) = rows m c t := win0_0.cut_fill _ _ _
  isplitl [H]
  · iexists d
    change _ ⊢ owns (c : Thread nD τ) (stage0_0 (cfg0.slots t 0)) fullShare
      (win0_0.fill (grid0.coords t) d (win0_0.cut (grid0.coords t) (padded m c t)))
    rw [hcut]
  · iexists d
    change _ ⊢ owns (c : Thread nD τ) (stage0_1 (cfg0.slots t 1)) fullShare
      (win0_0.fill (grid0.coords t) d (win0_0.cut (grid0.coords t) (padded m c t)))
    rw [hcut]

end Cert.Copy

end
-- ==== Proof.Result.lean ====
/-
  What the kernel's program leaves.  The nine blocks cover the 262144 rows, and each writes the rows it read, so the
  result array of the pallas_call ends equal to its operand (`copied`).  The operand is the first argument with its two
  leading axes joined, and the last line of the program splits them again, so the program's result is its first argument
  (`result_eq`).  `run` says this of every run, with the arguments unchanged and the semaphores at zero.
-/
module

public import proofs.«01_k».proof.Proof.Body

@[expose] public section

noncomputable section

namespace Cert.Copy

open Cert.KernelIdeal Cert.KernelIdeal.Gen
open Idealize.ShloMosaic Idealize.ShloMosaic.TcCoe Idealize.ShloMosaic.Tactic
open Idealize.SL Idealize.SL.RA Idealize.SL.Sem
open Idealize.ShloMosaic.Pipeline (Dat)

variable {F : FTy → Type} [FloatOps F]

variable (m : (ℓ : Loc nD τ sig) → Buf (Elt F) ℓ) (ρ : Dev nD → PrngReg)

/-- After the nine points the result array of the pallas_call is its operand: each row lies in some written block, and
    that block was read off the operand at the same place. -/
theorem copied (c : Dev nD) : (data m 0 c).arrAt (1 : Fin 2) cfg0.N = V m c main_v0 := by
  refine (data m 0 c).arrAt_eq_of_covers (1 : Fin 2) _ (by decide +kernel) fun t _ y => ?_
  have hcut : win0_0.cut (grid0.coords t) (padded m c t) = rows m c t := win0_0.cut_fill _ _ _
  exact congrFun hcut y

/-- The operand of the pallas_call is the first argument, its two leading axes joined. -/
theorem operand_eq (c : Dev nD) :
    V m c main_v0 = shapeCast S262144x128 (m ((c.tc : Thread nD τ).loc main_arg0)) shapeCasts_S1024x256x128_S262144x128 := by
  change StableHlo.after hostOps0 (fun b => m (c, b)) (Proc.devRef .tc main_v0) = _
  rw [hostOps0, StableHlo.after_cons, StableHlo.after_nil, StableHlo.reshape_result]
  rfl

/-- The program's result, from the memory at the end of the pallas_call, is its first argument: the axes joined before
    the call are split after it. -/
theorem result_eq (c : Dev nD) :
    Pipeline.afterTail₀ cfgs (data m) 0 (V0 m) [hostOps1] c main_v2 = m ((c.tc : Thread nD τ).loc main_arg0) := by
  unfold Pipeline.afterTail₀
  rw [show ([hostOps1] : List (List (HloOp τ sig (Elt F)))).flatten = hostOps1 from rfl, hostOps1, StableHlo.after_cons,
    StableHlo.after_nil, StableHlo.reshape_result,
    Pipeline.withArrays_arr spec0 launch0.win.arr_inj c (V0 m c) (fun w => (data m 0 c).arrAt w (cfgs 0).N) (1 : Fin 2),
    show (data m 0 c).arrAt (1 : Fin 2) (cfgs 0).N = _ from copied m c, operand_eq]
  exact shapeCast_shapeCast _ _ _

set_option backward.isDefEq.respectTransparency.types false in
/-- Every run ends with the buffers that the pallas_call's data and the lines after it name, and every semaphore at
    zero. -/
theorem run_data :
    θ_run (defs (F := F)) (onTc (τ := τ) main) ⟨m, fun _ => 0, ρ⟩
      (fun r => Pipeline.FramePost cfgs (data m) 0 (Pipeline.afterTail₀ cfgs (data m) 0 (V0 m) [hostOps1]) r
        ∧ r.2.sem = fun _ => 0) :=
  Pipeline.θ_run_frame_around cfgs (data m) 0 launch0 defs₀ Variants.none m ρ main
    (hbody := fun c => body_meets m c) (hshare := fun c => (data m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl) _ fun _ h => h

/-- Every run of the kernel's program ends with its result equal to its first argument, its arguments unchanged and
    every semaphore at zero. -/
theorem run :
    θ_run (defs (F := F)) (onTc (τ := τ) main) ⟨m, fun _ => 0, ρ⟩ (fun r =>
      (∀ c : Dev nD, r.2.mem ((c.tc : Thread nD τ).loc main_v2) = m ((c.tc : Thread nD τ).loc main_arg0)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) := by
  refine θ_run_mono (run_data m ρ) fun r hr => ⟨fun c => ?_, hr.2⟩
  have rest : ∀ b, b.isScoped = false → (∀ w, Pipeline.arrRef spec0 w ≠ b) →
      r.2.mem ((c.tc : Thread nD τ).loc b) = Pipeline.afterTail₀ cfgs (data m) 0 (V0 m) [hostOps1] c b :=
    fun b hb hw => (hr.1 c).2 b (Pipeline.mem_restRefs_of b hb hw)
  exact ⟨(rest main_v2 (by decide) (by decide)).trans (result_eq m c),
    (rest main_arg0 (by decide) (by decide)).trans (W_main_arg0 m (data m) c),
    (rest main_arg1 (by decide) (by decide)).trans (W_main_arg1 m (data m) c),
    (rest main_arg2 (by decide) (by decide)).trans (W_main_arg2 m (data m) c),
    (rest main_arg3 (by decide) (by decide)).trans (W_main_arg3 m (data m) c),
    (rest main_arg4 (by decide) (by decide)).trans (W_main_arg4 m (data m) c)⟩

end Cert.Copy

end
-- ==== Proof.lean ====
/-
  The claims about the copy kernel.  `Cert.Copy.run` says that the kernel's program returns its first argument; the
  reference returns that argument after joining its two leading axes and splitting them again.  The arguments stay as
  they were and every semaphore ends at zero in both.
-/
module

public import proofs.«01_k».proof.Defs
public import proofs.«01_k».proof.Proof.Result
public import proofs.«01_k».proof.Proof.Gen.Kernel
public import proofs.«01_k».proof.Proof.Gen.ReferenceIdeal.Run
public import proofs.«01_k».proof.Proof.Gen.Reference.Run
public import Idealize.ShloMosaic.Lib.Claim
public import Idealize.ShloMosaic.Lib.Quiescent

@[expose] public section

noncomputable section

namespace Cert.Proof

open Idealize.ShloMosaic Idealize.SL.Sem

/-- The kernel as taken and the kernel as read at the ideal numbers are one program, nothing having been replaced: on
    the machine's words a run of either from a memory has the ends of the other. -/
theorem same_runs (m : (ℓ : Loc Cert.Kernel.nD Cert.Kernel.τ Cert.Kernel.sig) → Buf (Elt Bits) ℓ)
    (ρ : Dev Cert.Kernel.nD → PrngReg)
    (Q : PUnit × MemSt Cert.Kernel.nD Cert.Kernel.τ Cert.Kernel.sig (Elt Bits) → Prop) :
    θ_run (Cert.KernelIdeal.defs (F := Bits)) (onTc (τ := Cert.KernelIdeal.τ) (Cert.KernelIdeal.main (F := Bits))) ⟨m, fun _ => 0, ρ⟩ Q
      = θ_run (Cert.Kernel.defs (F := Bits)) (onTc (τ := Cert.Kernel.τ) (Cert.Kernel.main (F := Bits))) ⟨m, fun _ => 0, ρ⟩ Q := by
  sl_kernel_rfl

/-- Every run of the kernel as taken, on the machine's words, ends with its result equal to its first argument, its
    arguments unchanged and every semaphore at zero. -/
theorem run_words (m : (ℓ : Loc Cert.Kernel.nD Cert.Kernel.τ Cert.Kernel.sig) → Buf (Elt Bits) ℓ)
    (ρ : Dev Cert.Kernel.nD → PrngReg) :
    θ_run (Cert.Kernel.defs (F := Bits)) (onTc (τ := Cert.Kernel.τ) (Cert.Kernel.main (F := Bits))) ⟨m, fun _ => 0, ρ⟩ (fun r =>
      (∀ c : Dev Cert.Kernel.nD,
        r.2.mem ((c.tc : Thread Cert.Kernel.nD Cert.Kernel.τ).loc Cert.Kernel.main_v2) = m ((c.tc : Thread Cert.Kernel.nD Cert.Kernel.τ).loc Cert.Kernel.main_arg0)
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) :=
  (same_runs m ρ _).mp (Cert.Copy.run (F := Bits) m ρ)

/-- The kernel as taken ends with its arguments unchanged and its semaphores at zero. -/
theorem frame_words : Cert.quiescent_Kernel (hKernel := Cert.Kernel.Gen.facts) := fun m g _ =>
  θ_run_mono (run_words m g) fun _ h => ⟨fun c => (h.1 c).2, h.2⟩

/-- The kernel at the ideal numbers ends with its arguments unchanged and its semaphores at zero. -/
theorem frame_ideal : Cert.quiescent_KernelIdeal (hKernelIdeal := Cert.KernelIdeal.Gen.facts) := fun m g _ =>
  θ_run_mono (Cert.Copy.run (F := Ideal) m g) fun _ h => ⟨fun c => (h.1 c).2, h.2⟩

/-- The reference at the ideal numbers ends with its arguments unchanged; it has no semaphore, so that none is left
    above zero. -/
theorem frame_reference_ideal : Cert.quiescent_ReferenceIdeal (hReferenceIdeal := Cert.ReferenceIdeal.Gen.facts) := fun m g _ =>
  θ_run_mono (Cert.ReferenceIdeal.Value.run (F := Ideal) m g) fun r h => ⟨fun c => (h c).2, sem_eq_zero_of_no_sems rfl r.2⟩

/-- The reference on the machine's words ends with its arguments unchanged; it has no semaphore, so that none is left
    above zero. -/
theorem frame_reference_words : Cert.quiescent_Reference (hReference := Cert.Reference.Gen.facts) := fun m g _ =>
  θ_run_mono (Cert.Reference.Value.run (F := Bits) m g) fun r h => ⟨fun c => (h c).2, sem_eq_zero_of_no_sems rfl r.2⟩

/-- At the ideal numbers, from equal arguments, the kernel and the reference end with one result: the first argument. -/
theorem equal_ideal : Cert.algebraic_KernelIdeal_ReferenceIdeal (hKernelIdeal := Cert.KernelIdeal.Gen.facts)
    (hReferenceIdeal := Cert.ReferenceIdeal.Gen.facts) := fun m g m' g' _ hagree =>
  ⟨fun c => m ((c.tc : Thread Cert.KernelIdeal.nD Cert.KernelIdeal.τ).loc Cert.KernelIdeal.main_arg0),
    θ_run_mono (Cert.Copy.run (F := Ideal) m g) fun _ h => h.1,
    θ_run_mono (Cert.ReferenceIdeal.Value.run (F := Ideal) m' g') fun _ h c =>
      ⟨(h c).1.trans ((shapeCast_shapeCast _ _ _).trans (hagree c).1), (h c).2⟩⟩

/-- On the machine's words, from equal arguments, the kernel and the reference end with the same result word for word:
    the first argument. -/
theorem equal_words : Cert.bitexact_Kernel_Reference (hKernel := Cert.Kernel.Gen.facts)
    (hReference := Cert.Reference.Gen.facts) := fun m g m' g' _ hagree =>
  ⟨fun c => m ((c.tc : Thread Cert.Kernel.nD Cert.Kernel.τ).loc Cert.Kernel.main_arg0),
    θ_run_mono (run_words m g) fun _ h => h.1,
    θ_run_mono (Cert.Reference.Value.run (F := Bits) m' g') fun _ h c =>
      ⟨(h c).1.trans ((shapeCast_shapeCast _ _ _).trans (hagree c).1), (h c).2⟩⟩

/-- All that is claimed of the kernel and the reference. -/
theorem claim : Cert.Claim :=
  ⟨Cert.Kernel.Gen.facts, Cert.KernelIdeal.Gen.facts, Cert.ReferenceIdeal.Gen.facts, Cert.Reference.Gen.facts,
    frame_words, frame_ideal, frame_reference_ideal, frame_reference_words, trivial, equal_ideal, equal_words⟩

end Cert.Proof

end
